-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions [hPre_positions : Cert.Pre_positions.Facts] (m : (ℓ : Loc Cert.KernelIdeal.nD Cert.KernelIdeal.τ Cert.KernelIdeal.sig) → Buf (Elt Ideal) ℓ) : Prop :=
  ∀ c : Dev Cert.KernelIdeal.nD,
    (Cert.Pre_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions [hPre_positions : Cert.Pre_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positions [hKernelIdeal : Cert.KernelIdeal.Facts] [hPre_positions : Cert.Pre_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions [hReferenceIdeal : Cert.ReferenceIdeal.Facts] [hPre_positions : Cert.Pre_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_positions [hKernelIdeal : Cert.KernelIdeal.Facts] [hReferenceIdeal : Cert.ReferenceIdeal.Facts] [hPre_positions : Cert.Pre_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positions : Cert.Pre_positions.Facts),
    quiescent_Kernel (hKernel := hKernel)
    ∧ quiescent_KernelIdeal (hKernelIdeal := hKernelIdeal)
    ∧ quiescent_KernelIdeal_pre_positions (hKernelIdeal := hKernelIdeal) (hPre_positions := hPre_positions)
    ∧ quiescent_ReferenceIdeal (hReferenceIdeal := hReferenceIdeal)
    ∧ quiescent_ReferenceIdeal_pre_positions (hReferenceIdeal := hReferenceIdeal) (hPre_positions := hPre_positions)
    ∧ preserves_Kernel_KernelIdeal
    ∧ algebraic_KernelIdeal_ReferenceIdeal_pre_positions (hKernelIdeal := hKernelIdeal) (hReferenceIdeal := hReferenceIdeal) (hPre_positions := hPre_positions)
-- ==== Pre_positions.lean ====
abbrev S8x8x4096x128 : Shape := ⟨4, ![8, 8, 4096, 128]⟩
abbrev S8x8x16x128 : Shape := ⟨4, ![8, 8, 16, 128]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S8x8x4096x128 .f32) (main_arg1 : FVec F S8x8x4096x128 .f32) (main_arg2 : FVec F S8x8x16x128 .f32) (main_arg3 : FVec F S8x8x16x128 .f32) (main_arg4 : IVec S16 32) : IVec S_ 1 :=
  let main_c : IVec S_ 32 := constantI S_ 32 0#32
  let main_v0 : IVec S16 32 := broadcastInDim S16 ![] bcast_S_S16 main_c
  let main_v1 : IVec S16 1 := cmpi .sge main_arg4 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S8x8x4096x128 : Shape := ⟨4, ![8, 8, 4096, 128]⟩
abbrev S8x8x16x128 : Shape := ⟨4, ![8, 8, 16, 128]⟩
abbrev S16 : Shape := ⟨1, ![16]⟩
abbrev S64x4096x128 : Shape := ⟨3, ![64, 4096, 128]⟩
abbrev S64x16x128 : Shape := ⟨3, ![64, 16, 128]⟩
abbrev S1x2048x128 : Shape := ⟨3, ![1, 2048, 128]⟩
abbrev S1x16x128 : Shape := ⟨3, ![1, 16, 128]⟩
abbrev S1 : Shape := ⟨1, ![1]⟩
abbrev S1x1x128 : Shape := ⟨3, ![1, 1, 128]⟩
abbrev S1x128 : Shape := ⟨2, ![1, 128]⟩

abbrev nBuf : Space → Nat
  | .hbm => 13
  | .vmem => 12
  | .smem => 1
  | _ => 0

abbrev bufTy : (tb : Table) → Fin (tcTables nBuf tb) → BufTy
  | .hbm, ⟨0, _⟩ => ⟨S8x8x4096x128, .f32⟩
  | .hbm, ⟨1, _⟩ => ⟨S8x8x4096x128, .f32⟩
  | .hbm, ⟨2, _⟩ => ⟨S8x8x16x128, .f32⟩
  | .hbm, ⟨3, _⟩ => ⟨S8x8x16x128, .f32⟩
  | .hbm, ⟨4, _⟩ => ⟨S16, .i32⟩
  | .hbm, ⟨5, _⟩ => ⟨S64x4096x128, .f32⟩
  | .hbm, ⟨6, _⟩ => ⟨S64x4096x128, .f32⟩
  | .hbm, ⟨7, _⟩ => ⟨S64x16x128, .f32⟩
  | .hbm, ⟨8, _⟩ => ⟨S64x16x128, .f32⟩
  | .hbm, ⟨9, _⟩ => ⟨S64x4096x128, .f32⟩
  | .hbm, ⟨10, _⟩ => ⟨S64x4096x128, .f32⟩
  | .hbm, ⟨11, _⟩ => ⟨S8x8x4096x128, .f32⟩
  | .hbm, ⟨12, _⟩ => ⟨S8x8x4096x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .smem, ⟨0, _⟩ => ⟨S16, .i32⟩
  | _, _ => ⟨S8x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 2], ![false, false]⟩

def k0_off1 (i : grid0.Coords) (v7 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v8 : BitVec 32 := Scalar.subi v7 v0
  let v137 : Index := Scalar.indexCast v8
  let c0_47 : Index := 0#32
  ![0, v137.toNat, 0]
def k0_cond1 (i : grid0.Coords) (v7 : BitVec 32) : BitVec 1 :=
  let arg1 : BitVec 32 := BitVec.ofNat 32 (i 1).val
  let c2048_i32 : BitVec 32 := 2048#32
  let v0 : BitVec 32 := Scalar.muli arg1 c2048_i32
  let v9 : BitVec 1 := Scalar.cmpi .sge v7 v0
  let c2048_i32_12 : BitVec 32 := 2048#32
  let v10 : BitVec 32 := Scalar.addi v0 c2048_i32_12
  let v11 : BitVec 1 := Scalar.cmpi .slt v7 v10
  let v12 : BitVec 1 := Scalar.andi v9 v11
  let v13 : BitVec 32 := Scalar.extui v12
  let c0_i32 : BitVec 32 := 0#32
  let v14 : BitVec 1 := Scalar.cmpi .ne v13 c0_i32
  v14

def k0_chk1 (i : grid0.Coords) (v7 : BitVec 32) : Prop :=
  (∀ (k0_h1 : k0_cond1 i v7 = 1#1), ∀ a, (k0_off1 i v7) a + S1x1x128.size a ≤ S1x2048x128.size a)
theorem k0_off1_inb : ∀ (i : grid0.Coords) (v7 : BitVec 32) (k0_hw1 : k0_chk1 i v7), ∀ (k0_h1 : k0_cond1 i v7 = 1#1), ∀ a, (k0_off1 i v7) a + S1x1x128.size a ≤ S1x2048x128.size a := fun i v7 k0_hw1 k0_h1 => k0_hw1 k0_h1

def k0_off2 (i : grid0.Coords) (v15 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v16 : BitVec 32 := Scalar.subi v15 v0
  let v137 : Index := Scalar.indexCast v16
  let c0_47 : Index := 0#32
  ![0, v137.toNat, 0]
def k0_cond2 (i : grid0.Coords) (v15 : BitVec 32) : BitVec 1 :=
  let arg1 : BitVec 32 := BitVec.ofNat 32 (i 1).val
  let c2048_i32 : BitVec 32 := 2048#32
  let v0 : BitVec 32 := Scalar.muli arg1 c2048_i32
  let v17 : BitVec 1 := Scalar.cmpi .sge v15 v0
  let c2048_i32_13 : BitVec 32 := 2048#32
  let v18 : BitVec 32 := Scalar.addi v0 c2048_i32_13
  let v19 : BitVec 1 := Scalar.cmpi .slt v15 v18
  let v20 : BitVec 1 := Scalar.andi v17 v19
  let v21 : BitVec 32 := Scalar.extui v20
  let c0_i32_14 : BitVec 32 := 0#32
  let v22 : BitVec 1 := Scalar.cmpi .ne v21 c0_i32_14
  v22

def k0_chk2 (i : grid0.Coords) (v15 : BitVec 32) : Prop :=
  (∀ (k0_h2 : k0_cond2 i v15 = 1#1), ∀ a, (k0_off2 i v15) a + S1x1x128.size a ≤ S1x2048x128.size a)
theorem k0_off2_inb : ∀ (i : grid0.Coords) (v15 : BitVec 32) (k0_hw2 : k0_chk2 i v15), ∀ (k0_h2 : k0_cond2 i v15 = 1#1), ∀ a, (k0_off2 i v15) a + S1x1x128.size a ≤ S1x2048x128.size a := fun i v15 k0_hw2 k0_h2 => k0_hw2 k0_h2

def k0_off3 (i : grid0.Coords) (v23 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v24 : BitVec 32 := Scalar.subi v23 v0
  let v137 : Index := Scalar.indexCast v24
  let c0_47 : Index := 0#32
  ![0, v137.toNat, 0]
def k0_cond3 (i : grid0.Coords) (v23 : BitVec 32) : BitVec 1 :=
  let arg1 : BitVec 32 := BitVec.ofNat 32 (i 1).val
  let c2048_i32 : BitVec 32 := 2048#32
  let v0 : BitVec 32 := Scalar.muli arg1 c2048_i32
  let v25 : BitVec 1 := Scalar.cmpi .sge v23 v0
  let c2048_i32_15 : BitVec 32 := 2048#32
  let v26 : BitVec 32 := Scalar.addi v0 c2048_i32_15
  let v27 : BitVec 1 := Scalar.cmpi .slt v23 v26
  let v28 : BitVec 1 := Scalar.andi v25 v27
  let v29 : BitVec 32 := Scalar.extui v28
  let c0_i32_16 : BitVec 32 := 0#32
  let v30 : BitVec 1 := Scalar.cmpi .ne v29 c0_i32_16
  v30

def k0_chk3 (i : grid0.Coords) (v23 : BitVec 32) : Prop :=
  (∀ (k0_h3 : k0_cond3 i v23 = 1#1), ∀ a, (k0_off3 i v23) a + S1x1x128.size a ≤ S1x2048x128.size a)
theorem k0_off3_inb : ∀ (i : grid0.Coords) (v23 : BitVec 32) (k0_hw3 : k0_chk3 i v23), ∀ (k0_h3 : k0_cond3 i v23 = 1#1), ∀ a, (k0_off3 i v23) a + S1x1x128.size a ≤ S1x2048x128.size a := fun i v23 k0_hw3 k0_h3 => k0_hw3 k0_h3

def k0_off4 (i : grid0.Coords) (v31 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v32 : BitVec 32 := Scalar.subi v31 v0
  let v137 : Index := Scalar.indexCast v32
  let c0_47 : Index := 0#32
  ![0, v137.toNat, 0]
def k0_cond4 (i : grid0.Coords) (v31 : BitVec 32) : BitVec 1 :=
  let arg1 : BitVec 32 := BitVec.ofNat 32 (i 1).val
  let c2048_i32 : BitVec 32 := 2048#32
  let v0 : BitVec 32 := Scalar.muli arg1 c2048_i32
  let v33 : BitVec 1 := Scalar.cmpi .sge v31 v0
  let c2048_i32_17 : BitVec 32 := 2048#32
  let v34 : BitVec 32 := Scalar.addi v0 c2048_i32_17
  let v35 : BitVec 1 := Scalar.cmpi .slt v31 v34
  let v36 : BitVec 1 := Scalar.andi v33 v35
  let v37 : BitVec 32 := Scalar.extui v36
  let c0_i32_18 : BitVec 32 := 0#32
  let v38 : BitVec 1 := Scalar.cmpi .ne v37 c0_i32_18
  v38

def k0_chk4 (i : grid0.Coords) (v31 : BitVec 32) : Prop :=
  (∀ (k0_h4 : k0_cond4 i v31 = 1#1), ∀ a, (k0_off4 i v31) a + S1x1x128.size a ≤ S1x2048x128.size a)
theorem k0_off4_inb : ∀ (i : grid0.Coords) (v31 : BitVec 32) (k0_hw4 : k0_chk4 i v31), ∀ (k0_h4 : k0_cond4 i v31 = 1#1), ∀ a, (k0_off4 i v31) a + S1x1x128.size a ≤ S1x2048x128.size a := fun i v31 k0_hw4 k0_h4 => k0_hw4 k0_h4

def k0_off5 (i : grid0.Coords) (v39 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v40 : BitVec 32 := Scalar.subi v39 v0
  let v137 : Index := Scalar.indexCast v40
  let c0_47 : Index := 0#32
  ![0, v137.toNat, 0]
def k0_cond5 (i : grid0.Coords) (v39 : BitVec 32) : BitVec 1 :=
  let arg1 : BitVec 32 := BitVec.ofNat 32 (i 1).val
  let c2048_i32 : BitVec 32 := 2048#32
  let v0 : BitVec 32 := Scalar.muli arg1 c2048_i32
  let v41 : BitVec 1 := Scalar.cmpi .sge v39 v0
  let c2048_i32_19 : BitVec 32 := 2048#32
  let v42 : BitVec 32 := Scalar.addi v0 c2048_i32_19
  let v43 : BitVec 1 := Scalar.cmpi .slt v39 v42
  let v44 : BitVec 1 := Scalar.andi v41 v43
  let v45 : BitVec 32 := Scalar.extui v44
  let c0_i32_20 : BitVec 32 := 0#32
  let v46 : BitVec 1 := Scalar.cmpi .ne v45 c0_i32_20
  v46

def k0_chk5 (i : grid0.Coords) (v39 : BitVec 32) : Prop :=
  (∀ (k0_h5 : k0_cond5 i v39 = 1#1), ∀ a, (k0_off5 i v39) a + S1x1x128.size a ≤ S1x2048x128.size a)
theorem k0_off5_inb : ∀ (i : grid0.Coords) (v39 : BitVec 32) (k0_hw5 : k0_chk5 i v39), ∀ (k0_h5 : k0_cond5 i v39 = 1#1), ∀ a, (k0_off5 i v39) a + S1x1x128.size a ≤ S1x2048x128.size a := fun i v39 k0_hw5 k0_h5 => k0_hw5 k0_h5

def k0_off6 (i : grid0.Coords) (v47 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v48 : BitVec 32 := Scalar.subi v47 v0
  let v137 : Index := Scalar.indexCast v48
  let c0_47 : Index := 0#32
  ![0, v137.toNat, 0]
def k0_cond6 (i : grid0.Coords) (v47 : BitVec 32) : BitVec 1 :=
  let arg1 : BitVec 32 := BitVec.ofNat 32 (i 1).val
  let c2048_i32 : BitVec 32 := 2048#32
  let v0 : BitVec 32 := Scalar.muli arg1 c2048_i32
  let v49 : BitVec 1 := Scalar.cmpi .sge v47 v0
  let c2048_i32_21 : BitVec 32 := 2048#32
  let v50 : BitVec 32 := Scalar.addi v0 c2048_i32_21
  let v51 : BitVec 1 := Scalar.cmpi .slt v47 v50
  let v52 : BitVec 1 := Scalar.andi v49 v51
  let v53 : BitVec 32 := Scalar.extui v52
  let c0_i32_22 : BitVec 32 := 0#32
  let v54 : BitVec 1 := Scalar.cmpi .ne v53 c0_i32_22
  v54

def k0_chk6 (i : grid0.Coords) (v47 : BitVec 32) : Prop :=
  (∀ (k0_h6 : k0_cond6 i v47 = 1#1), ∀ a, (k0_off6 i v47) a + S1x1x128.size a ≤ S1x2048x128.size a)
theorem k0_off6_inb : ∀ (i : grid0.Coords) (v47 : BitVec 32) (k0_hw6 : k0_chk6 i v47), ∀ (k0_h6 : k0_cond6 i v47 = 1#1), ∀ a, (k0_off6 i v47) a + S1x1x128.size a ≤ S1x2048x128.size a := fun i v47 k0_hw6 k0_h6 => k0_hw6 k0_h6

def k0_off7 (i : grid0.Coords) (v55 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v56 : BitVec 32 := Scalar.subi v55 v0
  let v137 : Index := Scalar.indexCast v56
  let c0_47 : Index := 0#32
  ![0, v137.toNat, 0]
def k0_cond7 (i : grid0.Coords) (v55 : BitVec 32) : BitVec 1 :=
  let arg1 : BitVec 32 := BitVec.ofNat 32 (i 1).val
  let c2048_i32 : BitVec 32 := 2048#32
  let v0 : BitVec 32 := Scalar.muli arg1 c2048_i32
  let v57 : BitVec 1 := Scalar.cmpi .sge v55 v0
  let c2048_i32_23 : BitVec 32 := 2048#32
  let v58 : BitVec 32 := Scalar.addi v0 c2048_i32_23
  let v59 : BitVec 1 := Scalar.cmpi .slt v55 v58
  let v60 : BitVec 1 := Scalar.andi v57 v59
  let v61 : BitVec 32 := Scalar.extui v60
  let c0_i32_24 : BitVec 32 := 0#32
  let v62 : BitVec 1 := Scalar.cmpi .ne v61 c0_i32_24
  v62

def k0_chk7 (i : grid0.Coords) (v55 : BitVec 32) : Prop :=
  (∀ (k0_h7 : k0_cond7 i v55 = 1#1), ∀ a, (k0_off7 i v55) a + S1x1x128.size a ≤ S1x2048x128.size a)
theorem k0_off7_inb : ∀ (i : grid0.Coords) (v55 : BitVec 32) (k0_hw7 : k0_chk7 i v55), ∀ (k0_h7 : k0_cond7 i v55 = 1#1), ∀ a, (k0_off7 i v55) a + S1x1x128.size a ≤ S1x2048x128.size a := fun i v55 k0_hw7 k0_h7 => k0_hw7 k0_h7

def k0_off8 (i : grid0.Coords) (v63 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v64 : BitVec 32 := Scalar.subi v63 v0
  let v137 : Index := Scalar.indexCast v64
  let c0_47 : Index := 0#32
  ![0, v137.toNat, 0]
def k0_cond8 (i : grid0.Coords) (v63 : BitVec 32) : BitVec 1 :=
  let arg1 : BitVec 32 := BitVec.ofNat 32 (i 1).val
  let c2048_i32 : BitVec 32 := 2048#32
  let v0 : BitVec 32 := Scalar.muli arg1 c2048_i32
  let v65 : BitVec 1 := Scalar.cmpi .sge v63 v0
  let c2048_i32_25 : BitVec 32 := 2048#32
  let v66 : BitVec 32 := Scalar.addi v0 c2048_i32_25
  let v67 : BitVec 1 := Scalar.cmpi .slt v63 v66
  let v68 : BitVec 1 := Scalar.andi v65 v67
  let v69 : BitVec 32 := Scalar.extui v68
  let c0_i32_26 : BitVec 32 := 0#32
  let v70 : BitVec 1 := Scalar.cmpi .ne v69 c0_i32_26
  v70

def k0_chk8 (i : grid0.Coords) (v63 : BitVec 32) : Prop :=
  (∀ (k0_h8 : k0_cond8 i v63 = 1#1), ∀ a, (k0_off8 i v63) a + S1x1x128.size a ≤ S1x2048x128.size a)
theorem k0_off8_inb : ∀ (i : grid0.Coords) (v63 : BitVec 32) (k0_hw8 : k0_chk8 i v63), ∀ (k0_h8 : k0_cond8 i v63 = 1#1), ∀ a, (k0_off8 i v63) a + S1x1x128.size a ≤ S1x2048x128.size a := fun i v63 k0_hw8 k0_h8 => k0_hw8 k0_h8

def k0_off9 (i : grid0.Coords) (v71 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v72 : BitVec 32 := Scalar.subi v71 v0
  let v137 : Index := Scalar.indexCast v72
  let c0_47 : Index := 0#32
  ![0, v137.toNat, 0]
def k0_cond9 (i : grid0.Coords) (v71 : BitVec 32) : BitVec 1 :=
  let arg1 : BitVec 32 := BitVec.ofNat 32 (i 1).val
  let c2048_i32 : BitVec 32 := 2048#32
  let v0 : BitVec 32 := Scalar.muli arg1 c2048_i32
  let v73 : BitVec 1 := Scalar.cmpi .sge v71 v0
  let c2048_i32_27 : BitVec 32 := 2048#32
  let v74 : BitVec 32 := Scalar.addi v0 c2048_i32_27
  let v75 : BitVec 1 := Scalar.cmpi .slt v71 v74
  let v76 : BitVec 1 := Scalar.andi v73 v75
  let v77 : BitVec 32 := Scalar.extui v76
  let c0_i32_28 : BitVec 32 := 0#32
  let v78 : BitVec 1 := Scalar.cmpi .ne v77 c0_i32_28
  v78

def k0_chk9 (i : grid0.Coords) (v71 : BitVec 32) : Prop :=
  (∀ (k0_h9 : k0_cond9 i v71 = 1#1), ∀ a, (k0_off9 i v71) a + S1x1x128.size a ≤ S1x2048x128.size a)
theorem k0_off9_inb : ∀ (i : grid0.Coords) (v71 : BitVec 32) (k0_hw9 : k0_chk9 i v71), ∀ (k0_h9 : k0_cond9 i v71 = 1#1), ∀ a, (k0_off9 i v71) a + S1x1x128.size a ≤ S1x2048x128.size a := fun i v71 k0_hw9 k0_h9 => k0_hw9 k0_h9

def k0_off10 (i : grid0.Coords) (v79 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v80 : BitVec 32 := Scalar.subi v79 v0
  let v137 : Index := Scalar.indexCast v80
  let c0_47 : Index := 0#32
  ![0, v137.toNat, 0]
def k0_cond10 (i : grid0.Coords) (v79 : BitVec 32) : BitVec 1 :=
  let arg1 : BitVec 32 := BitVec.ofNat 32 (i 1).val
  let c2048_i32 : BitVec 32 := 2048#32
  let v0 : BitVec 32 := Scalar.muli arg1 c2048_i32
  let v81 : BitVec 1 := Scalar.cmpi .sge v79 v0
  let c2048_i32_29 : BitVec 32 := 2048#32
  let v82 : BitVec 32 := Scalar.addi v0 c2048_i32_29
  let v83 : BitVec 1 := Scalar.cmpi .slt v79 v82
  let v84 : BitVec 1 := Scalar.andi v81 v83
  let v85 : BitVec 32 := Scalar.extui v84
  let c0_i32_30 : BitVec 32 := 0#32
  let v86 : BitVec 1 := Scalar.cmpi .ne v85 c0_i32_30
  v86

def k0_chk10 (i : grid0.Coords) (v79 : BitVec 32) : Prop :=
  (∀ (k0_h10 : k0_cond10 i v79 = 1#1), ∀ a, (k0_off10 i v79) a + S1x1x128.size a ≤ S1x2048x128.size a)
theorem k0_off10_inb : ∀ (i : grid0.Coords) (v79 : BitVec 32) (k0_hw10 : k0_chk10 i v79), ∀ (k0_h10 : k0_cond10 i v79 = 1#1), ∀ a, (k0_off10 i v79) a + S1x1x128.size a ≤ S1x2048x128.size a := fun i v79 k0_hw10 k0_h10 => k0_hw10 k0_h10

def k0_off11 (i : grid0.Coords) (v87 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v88 : BitVec 32 := Scalar.subi v87 v0
  let v137 : Index := Scalar.indexCast v88
  let c0_47 : Index := 0#32
  ![0, v137.toNat, 0]
def k0_cond11 (i : grid0.Coords) (v87 : BitVec 32) : BitVec 1 :=
  let arg1 : BitVec 32 := BitVec.ofNat 32 (i 1).val
  let c2048_i32 : BitVec 32 := 2048#32
  let v0 : BitVec 32 := Scalar.muli arg1 c2048_i32
  let v89 : BitVec 1 := Scalar.cmpi .sge v87 v0
  let c2048_i32_31 : BitVec 32 := 2048#32
  let v90 : BitVec 32 := Scalar.addi v0 c2048_i32_31
  let v91 : BitVec 1 := Scalar.cmpi .slt v87 v90
  let v92 : BitVec 1 := Scalar.andi v89 v91
  let v93 : BitVec 32 := Scalar.extui v92
  let c0_i32_32 : BitVec 32 := 0#32
  let v94 : BitVec 1 := Scalar.cmpi .ne v93 c0_i32_32
  v94

def k0_chk11 (i : grid0.Coords) (v87 : BitVec 32) : Prop :=
  (∀ (k0_h11 : k0_cond11 i v87 = 1#1), ∀ a, (k0_off11 i v87) a + S1x1x128.size a ≤ S1x2048x128.size a)
theorem k0_off11_inb : ∀ (i : grid0.Coords) (v87 : BitVec 32) (k0_hw11 : k0_chk11 i v87), ∀ (k0_h11 : k0_cond11 i v87 = 1#1), ∀ a, (k0_off11 i v87) a + S1x1x128.size a ≤ S1x2048x128.size a := fun i v87 k0_hw11 k0_h11 => k0_hw11 k0_h11

def k0_off12 (i : grid0.Coords) (v95 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v96 : BitVec 32 := Scalar.subi v95 v0
  let v137 : Index := Scalar.indexCast v96
  let c0_47 : Index := 0#32
  ![0, v137.toNat, 0]
def k0_cond12 (i : grid0.Coords) (v95 : BitVec 32) : BitVec 1 :=
  let arg1 : BitVec 32 := BitVec.ofNat 32 (i 1).val
  let c2048_i32 : BitVec 32 := 2048#32
  let v0 : BitVec 32 := Scalar.muli arg1 c2048_i32
  let v97 : BitVec 1 := Scalar.cmpi .sge v95 v0
  let c2048_i32_33 : BitVec 32 := 2048#32
  let v98 : BitVec 32 := Scalar.addi v0 c2048_i32_33
  let v99 : BitVec 1 := Scalar.cmpi .slt v95 v98
  let v100 : BitVec 1 := Scalar.andi v97 v99
  let v101 : BitVec 32 := Scalar.extui v100
  let c0_i32_34 : BitVec 32 := 0#32
  let v102 : BitVec 1 := Scalar.cmpi .ne v101 c0_i32_34
  v102

def k0_chk12 (i : grid0.Coords) (v95 : BitVec 32) : Prop :=
  (∀ (k0_h12 : k0_cond12 i v95 = 1#1), ∀ a, (k0_off12 i v95) a + S1x1x128.size a ≤ S1x2048x128.size a)
theorem k0_off12_inb : ∀ (i : grid0.Coords) (v95 : BitVec 32) (k0_hw12 : k0_chk12 i v95), ∀ (k0_h12 : k0_cond12 i v95 = 1#1), ∀ a, (k0_off12 i v95) a + S1x1x128.size a ≤ S1x2048x128.size a := fun i v95 k0_hw12 k0_h12 => k0_hw12 k0_h12

def k0_off13 (i : grid0.Coords) (v103 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v104 : BitVec 32 := Scalar.subi v103 v0
  let v137 : Index := Scalar.indexCast v104
  let c0_47 : Index := 0#32
  ![0, v137.toNat, 0]
def k0_cond13 (i : grid0.Coords) (v103 : BitVec 32) : BitVec 1 :=
  let arg1 : BitVec 32 := BitVec.ofNat 32 (i 1).val
  let c2048_i32 : BitVec 32 := 2048#32
  let v0 : BitVec 32 := Scalar.muli arg1 c2048_i32
  let v105 : BitVec 1 := Scalar.cmpi .sge v103 v0
  let c2048_i32_35 : BitVec 32 := 2048#32
  let v106 : BitVec 32 := Scalar.addi v0 c2048_i32_35
  let v107 : BitVec 1 := Scalar.cmpi .slt v103 v106
  let v108 : BitVec 1 := Scalar.andi v105 v107
  let v109 : BitVec 32 := Scalar.extui v108
  let c0_i32_36 : BitVec 32 := 0#32
  let v110 : BitVec 1 := Scalar.cmpi .ne v109 c0_i32_36
  v110

def k0_chk13 (i : grid0.Coords) (v103 : BitVec 32) : Prop :=
  (∀ (k0_h13 : k0_cond13 i v103 = 1#1), ∀ a, (k0_off13 i v103) a + S1x1x128.size a ≤ S1x2048x128.size a)
theorem k0_off13_inb : ∀ (i : grid0.Coords) (v103 : BitVec 32) (k0_hw13 : k0_chk13 i v103), ∀ (k0_h13 : k0_cond13 i v103 = 1#1), ∀ a, (k0_off13 i v103) a + S1x1x128.size a ≤ S1x2048x128.size a := fun i v103 k0_hw13 k0_h13 => k0_hw13 k0_h13

def k0_off14 (i : grid0.Coords) (v111 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v112 : BitVec 32 := Scalar.subi v111 v0
  let v137 : Index := Scalar.indexCast v112
  let c0_47 : Index := 0#32
  ![0, v137.toNat, 0]
def k0_cond14 (i : grid0.Coords) (v111 : BitVec 32) : BitVec 1 :=
  let arg1 : BitVec 32 := BitVec.ofNat 32 (i 1).val
  let c2048_i32 : BitVec 32 := 2048#32
  let v0 : BitVec 32 := Scalar.muli arg1 c2048_i32
  let v113 : BitVec 1 := Scalar.cmpi .sge v111 v0
  let c2048_i32_37 : BitVec 32 := 2048#32
  let v114 : BitVec 32 := Scalar.addi v0 c2048_i32_37
  let v115 : BitVec 1 := Scalar.cmpi .slt v111 v114
  let v116 : BitVec 1 := Scalar.andi v113 v115
  let v117 : BitVec 32 := Scalar.extui v116
  let c0_i32_38 : BitVec 32 := 0#32
  let v118 : BitVec 1 := Scalar.cmpi .ne v117 c0_i32_38
  v118

def k0_chk14 (i : grid0.Coords) (v111 : BitVec 32) : Prop :=
  (∀ (k0_h14 : k0_cond14 i v111 = 1#1), ∀ a, (k0_off14 i v111) a + S1x1x128.size a ≤ S1x2048x128.size a)
theorem k0_off14_inb : ∀ (i : grid0.Coords) (v111 : BitVec 32) (k0_hw14 : k0_chk14 i v111), ∀ (k0_h14 : k0_cond14 i v111 = 1#1), ∀ a, (k0_off14 i v111) a + S1x1x128.size a ≤ S1x2048x128.size a := fun i v111 k0_hw14 k0_h14 => k0_hw14 k0_h14

def k0_off15 (i : grid0.Coords) (v119 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v120 : BitVec 32 := Scalar.subi v119 v0
  let v137 : Index := Scalar.indexCast v120
  let c0_47 : Index := 0#32
  ![0, v137.toNat, 0]
def k0_cond15 (i : grid0.Coords) (v119 : BitVec 32) : BitVec 1 :=
  let arg1 : BitVec 32 := BitVec.ofNat 32 (i 1).val
  let c2048_i32 : BitVec 32 := 2048#32
  let v0 : BitVec 32 := Scalar.muli arg1 c2048_i32
  let v121 : BitVec 1 := Scalar.cmpi .sge v119 v0
  let c2048_i32_39 : BitVec 32 := 2048#32
  let v122 : BitVec 32 := Scalar.addi v0 c2048_i32_39
  let v123 : BitVec 1 := Scalar.cmpi .slt v119 v122
  let v124 : BitVec 1 := Scalar.andi v121 v123
  let v125 : BitVec 32 := Scalar.extui v124
  let c0_i32_40 : BitVec 32 := 0#32
  let v126 : BitVec 1 := Scalar.cmpi .ne v125 c0_i32_40
  v126

def k0_chk15 (i : grid0.Coords) (v119 : BitVec 32) : Prop :=
  (∀ (k0_h15 : k0_cond15 i v119 = 1#1), ∀ a, (k0_off15 i v119) a + S1x1x128.size a ≤ S1x2048x128.size a)
theorem k0_off15_inb : ∀ (i : grid0.Coords) (v119 : BitVec 32) (k0_hw15 : k0_chk15 i v119), ∀ (k0_h15 : k0_cond15 i v119 = 1#1), ∀ a, (k0_off15 i v119) a + S1x1x128.size a ≤ S1x2048x128.size a := fun i v119 k0_hw15 k0_h15 => k0_hw15 k0_h15

def k0_off16 (i : grid0.Coords) (v127 : BitVec 32) : Fin 3 → Nat :=
  let c0_46 : Index := 0#32
  let arg1 : BitVec 32 := BitVec.ofNat 32 (i 1).val
  let c2048_i32 : BitVec 32 := 2048#32
  let v0 : BitVec 32 := Scalar.muli arg1 c2048_i32
  let v128 : BitVec 32 := Scalar.subi v127 v0
  let v137 : Index := Scalar.indexCast v128
  let c0_47 : Index := 0#32
  ![0, v137.toNat, 0]
def k0_cond16 (i : grid0.Coords) (v127 : BitVec 32) : BitVec 1 :=
  let arg1 : BitVec 32 := BitVec.ofNat 32 (i 1).val
  let c2048_i32 : BitVec 32 := 2048#32
  let v0 : BitVec 32 := Scalar.muli arg1 c2048_i32
  let v129 : BitVec 1 := Scalar.cmpi .sge v127 v0
  let c2048_i32_41 : BitVec 32 := 2048#32
  let v130 : BitVec 32 := Scalar.addi v0 c2048_i32_41
  let v131 : BitVec 1 := Scalar.cmpi .slt v127 v130
  let v132 : BitVec 1 := Scalar.andi v129 v131
  let v133 : BitVec 32 := Scalar.extui v132
  let c0_i32_42 : BitVec 32 := 0#32
  let v134 : BitVec 1 := Scalar.cmpi .ne v133 c0_i32_42
  v134

def k0_chk16 (i : grid0.Coords) (v127 : BitVec 32) : Prop :=
  (∀ (k0_h16 : k0_cond16 i v127 = 1#1), ∀ a, (k0_off16 i v127) a + S1x1x128.size a ≤ S1x2048x128.size a)
theorem k0_off16_inb : ∀ (i : grid0.Coords) (v127 : BitVec 32) (k0_hw16 : k0_chk16 i v127), ∀ (k0_h16 : k0_cond16 i v127 = 1#1), ∀ a, (k0_off16 i v127) a + S1x1x128.size a ≤ S1x2048x128.size a := fun i v127 k0_hw16 k0_h16 => k0_hw16 k0_h16

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x8x4096x128 : Shape := ⟨4, ![8, 8, 4096, 128]⟩
abbrev S8x8x16x128 : Shape := ⟨4, ![8, 8, 16, 128]⟩
abbrev S16 : Shape := ⟨1, ![16]⟩
abbrev S_ : Shape := ⟨0, ![]⟩
abbrev S16x1 : Shape := ⟨2, ![16, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x8x4096x128, .f32⟩
  | .hbm, ⟨1, _⟩ => ⟨S8x8x4096x128, .f32⟩
  | .hbm, ⟨2, _⟩ => ⟨S8x8x16x128, .f32⟩
  | .hbm, ⟨3, _⟩ => ⟨S8x8x16x128, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S8x8x4096x128, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S8x8x4096x128, .f32⟩
  | _, _ => ⟨S8x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Rows.lean ====
module
public import Idealize.ShloMosaic.Lib.WordCmp
public import Idealize.ShloMosaic.Lib.Pointwise.Index
@[expose] public section
noncomputable section

namespace Cert.Rows
open Idealize.ShloMosaic Idealize.ShloMosaic.WordCmp

/-- A block of 2048 rows with row `q` of `x` written over the row that the word `w` names, counted from row `b`;
    the block as it was where `w` names none of its rows. -/
def setRow {α : Type} (b : ℕ) (w : BitVec 32) (q : Fin 16) (x : (⟨3, ![1, 16, 128]⟩ : Shape).Idx → α)
    (X : (⟨3, ![1, 2048, 128]⟩ : Shape).Idx → α) : (⟨3, ![1, 2048, 128]⟩ : Shape).Idx → α :=
  fun j => if w.toInt = (b + (j 1).val : ℕ) then x (ix3 0 q (j 2)) else X j

/-- A block with the rows of the positions in the list `l` set, in the list's order, each where its word says. -/
def setRows {α : Type} (b : ℕ) (w : (⟨1, ![16]⟩ : Shape).Idx → BitVec 32) (x : (⟨3, ![1, 16, 128]⟩ : Shape).Idx → α)
    (l : List (Fin 16)) (X : (⟨3, ![1, 2048, 128]⟩ : Shape).Idx → α) : (⟨3, ![1, 2048, 128]⟩ : Shape).Idx → α :=
  l.foldl (fun X q => setRow b (w (ix1 q)) q x X) X

/-- The word that holds `2048 * n`, for `n` 0 or 1, has that number as its signed value. -/
theorem toInt_base (n : Fin 2) : (BitVec.ofNat 32 n.val * 2048#32).toInt = 2048 * n.val := by
  revert n; decide

/-- The test "at least `2048 * n` and below `2048 * n + 2048`" on words is the same test on their signed values. -/
theorem inRange_iff (n : Fin 2) (v : BitVec 32) :
    IntOp.andi (IntOp.cmpi .sge v (BitVec.ofNat 32 n.val * 2048#32)) (IntOp.cmpi .slt v (BitVec.ofNat 32 n.val * 2048#32 + 2048#32)) = 1#1
      ↔ (2048 * n.val : ℤ) ≤ v.toInt ∧ v.toInt < 2048 * n.val + 2048 := by
  have hb : (BitVec.ofNat 32 n.val * 2048#32 + 2048#32).toInt = 2048 * n.val + 2048 := by revert n; decide
  rw [cmpi_sge_eq, cmpi_slt_eq, toInt_base, hb, andi_ofBool, ← Bool.decide_and]
  by_cases h : (2048 * n.val : ℤ) ≤ v.toInt ∧ v.toInt < 2048 * n.val + 2048 <;> simp [h]

/-- A truth value widened to a word and compared with zero is that truth value. -/
theorem test_iff (z : BitVec 1) : Scalar.cmpi .ne (Scalar.extui z : BitVec 32) 0#32 = 1#1 ↔ z = 1#1 := by
  revert z; decide

/-- The distance of such a word from `2048 * n`. -/
theorem offset_eq (n : Fin 2) (v : BitVec 32) (h : (2048 * n.val : ℤ) ≤ v.toInt ∧ v.toInt < 2048 * n.val + 2048) :
    ((v - BitVec.ofNat 32 n.val * 2048#32).toNat : ℤ) = v.toInt - 2048 * n.val := by
  obtain rfl | rfl : n = 0 ∨ n = 1 := by omega
  all_goals
    simp only [BitVec.toInt_eq_toNat_cond, BitVec.toNat_sub, BitVec.toNat_mul, BitVec.toNat_ofNat] at h ⊢
    have := v.isLt
    split at h <;> simp at h ⊢ <;> omega

/-- A word that names no row of the block changes nothing. -/
theorem setRow_of_not {α : Type} (n : ℕ) (w : BitVec 32) (q : Fin 16) (x : (⟨3, ![1, 16, 128]⟩ : Shape).Idx → α)
    (X : (⟨3, ![1, 2048, 128]⟩ : Shape).Idx → α) (h : ¬((2048 * n : ℤ) ≤ w.toInt ∧ w.toInt < 2048 * n + 2048)) :
    setRow (2048 * n) w q x X = X :=
  funext fun j => if_neg fun e => h (by
    have hj : (j 1).val < 2048 := (j 1).isLt
    push_cast at e
    omega)

/-! ## One element of the rows -/

/-- The element of row `n`: the one from the last of the rows `u` whose word names row `n`, and `a` where none does. -/
def pick {α : Type} (w : Fin 16 → BitVec 32) (n : ℕ) (u : Fin 16 → α) (a : α) : α :=
  (List.finRange 16).foldl (fun a q => if (w q).toInt = n then u q else a) a

/-- Equal words, rows and elements are picked from equally. -/
theorem pick_congr {α : Type} {w w' : Fin 16 → BitVec 32} {n n' : ℕ} {u u' : Fin 16 → α} {a a' : α}
    (hw : ∀ q, w q = w' q) (hn : n = n') (hu : ∀ q, u q = u' q) (ha : a = a') : pick w n u a = pick w' n' u' a' := by
  obtain rfl : w = w' := funext hw
  obtain rfl : u = u' := funext hu
  rw [hn, ha]

/-- An element of a block with its rows set, over any list of positions. -/
theorem setRows_foldl {α : Type} (b : ℕ) (w : (⟨1, ![16]⟩ : Shape).Idx → BitVec 32)
    (x : (⟨3, ![1, 16, 128]⟩ : Shape).Idx → α) (j : (⟨3, ![1, 2048, 128]⟩ : Shape).Idx) (l : List (Fin 16))
    (X : (⟨3, ![1, 2048, 128]⟩ : Shape).Idx → α) :
    setRows b w x l X j
      = l.foldl (fun a q => if (w (ix1 q)).toInt = (b + (j 1).val : ℕ) then x (ix3 0 q (j 2)) else a) (X j) := by
  induction l generalizing X with
  | nil => rfl
  | cons q l ih => exact (ih (setRow b (w (ix1 q)) q x X))

/-- An element of a block with all its rows set is picked from its column of the new rows and the block's own element. -/
theorem setRows_apply {α : Type} (b : ℕ) (w : (⟨1, ![16]⟩ : Shape).Idx → BitVec 32)
    (x : (⟨3, ![1, 16, 128]⟩ : Shape).Idx → α) (X : (⟨3, ![1, 2048, 128]⟩ : Shape).Idx → α)
    (j : (⟨3, ![1, 2048, 128]⟩ : Shape).Idx) :
    setRows b w x (List.finRange 16) X j
      = pick (fun q => w (ix1 q)) (b + (j 1).val) (fun q => x (ix3 0 q (j 2))) (X j) := setRows_foldl b w x j _ X

/-- The new rows put into every head of a flat stack of 64 caches. -/
def put3 {α : Type} (w : Fin 16 → BitVec 32) (u : (⟨3, ![64, 16, 128]⟩ : Shape).Idx → α)
    (X : (⟨3, ![64, 4096, 128]⟩ : Shape).Idx → α) : (⟨3, ![64, 4096, 128]⟩ : Shape).Idx → α :=
  fun j => pick w (j 1).val (fun q => u (ix3 (j 0) q (j 2))) (X j)

/-- The new rows put into every head of 8 by 8 caches: row `n` of a cache is the last new row whose word is `n`, and
    stays as it was where no word is. -/
def put {α : Type} (w : Fin 16 → BitVec 32) (u : (⟨4, ![8, 8, 16, 128]⟩ : Shape).Idx → α)
    (X : (⟨4, ![8, 8, 4096, 128]⟩ : Shape).Idx → α) : (⟨4, ![8, 8, 4096, 128]⟩ : Shape).Idx → α :=
  fun j => pick w (j 2).val (fun q => u (ix4 (j 0) (j 1) q (j 3))) (X j)

end Cert.Rows
-- ==== Proof.BodyIdeal.lean ====
/- The kernel's body, run once for all its rows. The body copies a block of each cache, and then takes the sixteen
   positions in order: it reads the position, and where that names a row of the block it stores the new row there. -/
module

public import proofs.«01_k».proof.Proof.Gen.KernelIdeal.Frame
public import proofs.«01_k».proof.Proof.Gen.KernelIdeal.Skeleton
public import proofs.«01_k».proof.Proof.Rows
public import Idealize.ShloMosaic.Lib.WholeRead
public import Idealize.ShloMosaic.Lib.VecWindow

@[expose] public section

set_option maxRecDepth 16384
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Rows

variable {F : FTy → Type} [FloatOps F]

local notation "𝕄" => MT nD τ sig Unit (Elt F) ℕ (UR sig nD τ) ℕ

/-! ## What one position does to a block -/

/-- The kernel's test of a position: it names a row of the block. -/
theorem inRows_iff (i : grid0.Coords) (v : BitVec 32) :
    k0_cond1 i v = 1#1 ↔ (2048 * (i 1).val : ℤ) ≤ v.toInt ∧ v.toInt < 2048 * (i 1).val + 2048 :=
  (test_iff _).trans (inRange_iff (i 1) v)

/-- The row of the block that the position names. -/
theorem off_eq (i : grid0.Coords) (v : BitVec 32) (h : k0_cond1 i v = 1#1) :
    (k0_off1 i v 1 : ℤ) = v.toInt - 2048 * (i 1).val := offset_eq (i 1) v ((inRows_iff i v).mp h)

/-- A position that passes the test names a row inside the block. -/
theorem chk (i : grid0.Coords) (v : BitVec 32) : k0_chk1 i v := by
  intro h a
  have h1 := off_eq i v h
  have h2 := (inRows_iff i v).mp h
  fin_cases a
  · exact Nat.le_refl 1
  · show k0_off1 i v 1 + 1 ≤ 2048
    omega
  · exact Nat.le_refl 128

/-- A row block read as a row and laid out again as a block. -/
def rowPay (v : Vec F S1x1x128 .f32) : FVec F S1x1x128 .f32 :=
  shapeCast S1x1x128 (shapeCast S1x128 v shapeCasts_S1x1x128_S1x128) shapeCasts_S1x128_S1x1x128

/-- It is the same block. -/
theorem rowPay_eq (v : Vec F S1x1x128 .f32) : rowPay v = v := shapeCast_shapeCast v _ _

/-- The store of one row, read back: the block with that row set. -/
theorem read_row (i : grid0.Coords) (v : BitVec 32) (h : k0_cond1 i v = 1#1) (q : Fin 16)
    (hq : ∀ a, (![0, q.val, 0] : Fin 3 → ℕ) a + S1x1x128.size a ≤ S1x16x128.size a)
    (hin : ∀ a, k0_off1 i v a + S1x1x128.size a ≤ S1x2048x128.size a)
    (src : Memref sig .tc .vmem S1x16x128 .f32) (hsrc : src.IsWhole) (dst : Memref sig .tc .vmem S1x2048x128 .f32)
    (x : Vec F S1x16x128 .f32) (f : BufTy.Contents (Elt F) dst.view.ty) :
    dst.view.read (Elt F) (dst.view.writes (Elt F) f [⟨Rect.unit (s := S1x2048x128) (k0_off1 i v) S1x1x128.size hin,
        rowPay (View.readAt (Elt F) src.view (Rect.unit (s := S1x16x128) ![0, q.val, 0] S1x1x128.size hq).toLoadRect (hsrc.unread x))⟩])
      = setRow (2048 * (i 1).val) v q x (dst.view.read (Elt F) f) := by
  have h1 := off_eq i v h
  rw [rowPay_eq]
  funext j
  unfold setRow
  split
  · rename_i hj
    rw [View.read_writes_cons_hit_of_coords (x := ix3 0 0 (j 2))]
    · refine (hsrc.readAt_unread x _ _).trans (congrArg x (funext fun a => ?_))
      fin_cases a <;> apply Fin.ext
      · rfl
      · show q.val + 1 * 0 = q.val
        omega
      · show 0 + 1 * (j 2).val = (j 2).val
        omega
    · intro a
      have h0 : (j 0).val < 1 := (j 0).isLt
      fin_cases a
      · show (j 0).val = 0 + 1 * 0
        omega
      · show (j 1).val = k0_off1 i v 1 + 1 * 0
        push_cast at hj
        omega
      · show (j 2).val = 0 + 1 * (j 2).val
        omega
  · rename_i hj
    rw [View.read_writes_cons_miss_of_axis (a := 1) (o := k0_off1 i v 1) (n := 1)]
    · rfl
    · rfl
    · rfl
    · rfl
    · push_cast at hj
      omega

/-! ## The body's steps, each with the program that follows it -/

/-- The word of position `q` lies in the list of sixteen. -/
theorem hword (q : Fin 16) : ∀ a, (![q.val] : Fin 1 → ℕ) a + S1.size a ≤ S16.size a := by revert q; decide

/-- Row `q` lies in a block of sixteen rows. -/
theorem hrow (q : Fin 16) : ∀ a, (![0, q.val, 0] : Fin 3 → ℕ) a + S1x1x128.size a ≤ S1x16x128.size a := by revert q; decide

/-- Under the test of the word `v`, row `q` of each of the two new blocks stored in the two cache blocks; then `r`. -/
def rowThen {α : Type} (i : grid0.Coords) (arg5 arg6 : Memref sig .tc .vmem S1x16x128 .f32)
    (arg7 arg8 : Memref sig .tc .vmem S1x2048x128 .f32) (q : Fin 16) (v : BitVec 32) (hw : k0_chk1 i v)
    (r : Prog (TpuEff nD τ sig (Elt F) Λ₀ .tc) α) : Prog (TpuEff nD τ sig (Elt F) Λ₀ .tc) α :=
  if h : k0_cond1 i v = 1#1 then do
    let u ← Prog.lift (.load arg5 (Rect.unit (s := S1x16x128) ![0, q.val, 0] S1x1x128.size (hrow q)).toLoadRect (View.loadsAt_vmem h_S1x1x128))
    let _ ← Prog.lift (.load arg7 (Rect.unit (s := S1x2048x128) (k0_off1 i v) S1x1x128.size (k0_off1_inb i v hw h)).toLoadRect (View.loadsAt_vmem h_S1x1x128))
    Prog.lift (.store arg7 (Rect.unit (s := S1x2048x128) (k0_off1 i v) S1x1x128.size (k0_off1_inb i v hw h)) (rowPay u) Finset.univ (View.stores_vmem_bits_univ h_S1x1x128 rfl) (.inl rfl))
    let w ← Prog.lift (.load arg6 (Rect.unit (s := S1x16x128) ![0, q.val, 0] S1x1x128.size (hrow q)).toLoadRect (View.loadsAt_vmem h_S1x1x128))
    let _ ← Prog.lift (.load arg8 (Rect.unit (s := S1x2048x128) (k0_off1 i v) S1x1x128.size (k0_off1_inb i v hw h)).toLoadRect (View.loadsAt_vmem h_S1x1x128))
    Prog.lift (.store arg8 (Rect.unit (s := S1x2048x128) (k0_off1 i v) S1x1x128.size (k0_off1_inb i v hw h)) (rowPay w) Finset.univ (View.stores_vmem_bits_univ h_S1x1x128 rfl) (.inl rfl))
    r
  else r

/-- Position `q`'s word read, and what the test says of it taken as known; then `k`. -/
def wordThen {α : Type} (i : grid0.Coords) (arg2 : Memref sig .tc .smem S16 .i32) (q : Fin 16)
    (k : (v : BitVec 32) → k0_chk1 i v → Prog (TpuEff nD τ sig (Elt F) Λ₀ .tc) α) : Prog (TpuEff nD τ sig (Elt F) Λ₀ .tc) α := do
  let v : Elt F .i32 ← smemLoad arg2 (Rect.unit (s := S16) ![q.val] S1.size (hword q)) numel1_S1 rfl
  have hw : k0_chk1 i v := (← Prog.lift (TpuEff.assume (k0_chk1 i v) (k0_chk1.dec i v))).down
  k v hw

/-- The two cache blocks copied to the two result blocks; then `r`. -/
def copyThen {α : Type} (arg3 arg4 arg7 arg8 : Memref sig .tc .vmem S1x2048x128 .f32)
    (r : Prog (TpuEff nD τ sig (Elt F) Λ₀ .tc) α) : Prog (TpuEff nD τ sig (Elt F) Λ₀ .tc) α := do
  let u : Vec F S1x2048x128 .f32 ← Prog.lift (.load arg3 (Rect.unit (s := S1x2048x128) ![0, 0, 0] S1x2048x128.size inb_S1x2048x128_S1x2048x128_0_0_0).toLoadRect (View.loadsAt_vmem h_S1x2048x128))
  let _ ← Prog.lift (.load arg7 (Rect.unit (s := S1x2048x128) ![0, 0, 0] S1x2048x128.size inb_S1x2048x128_S1x2048x128_0_0_0).toLoadRect (View.loadsAt_vmem h_S1x2048x128))
  Prog.lift (.store arg7 (Rect.unit (s := S1x2048x128) ![0, 0, 0] S1x2048x128.size inb_S1x2048x128_S1x2048x128_0_0_0) (k0_pay9 u) Finset.univ (View.stores_vmem_bits_univ h_S1x2048x128 rfl) (.inl rfl))
  let w : Vec F S1x2048x128 .f32 ← Prog.lift (.load arg4 (Rect.unit (s := S1x2048x128) ![0, 0, 0] S1x2048x128.size inb_S1x2048x128_S1x2048x128_0_0_0).toLoadRect (View.loadsAt_vmem h_S1x2048x128))
  let _ ← Prog.lift (.load arg8 (Rect.unit (s := S1x2048x128) ![0, 0, 0] S1x2048x128.size inb_S1x2048x128_S1x2048x128_0_0_0).toLoadRect (View.loadsAt_vmem h_S1x2048x128))
  Prog.lift (.store arg8 (Rect.unit (s := S1x2048x128) ![0, 0, 0] S1x2048x128.size inb_S1x2048x128_S1x2048x128_0_0_0) (k0_pay10 w) Finset.univ (View.stores_vmem_bits_univ h_S1x2048x128 rfl) (.inl rfl))
  r

/-- Position `q`'s step: read the word, test it, store the rows. -/
def step {α : Type} (i : grid0.Coords) (arg2 : Memref sig .tc .smem S16 .i32) (arg5 arg6 : Memref sig .tc .vmem S1x16x128 .f32)
    (arg7 arg8 : Memref sig .tc .vmem S1x2048x128 .f32) (q : Fin 16) (r : Prog (TpuEff nD τ sig (Elt F) Λ₀ .tc) α) :
    Prog (TpuEff nD τ sig (Elt F) Λ₀ .tc) α :=
  wordThen i arg2 q fun v hw => rowThen i arg5 arg6 arg7 arg8 q v hw r

/-- A program bound after a guarded row store is bound after what follows the store. -/
theorem rowThen_bind {α β : Type} (i : grid0.Coords) (arg5 arg6 : Memref sig .tc .vmem S1x16x128 .f32)
    (arg7 arg8 : Memref sig .tc .vmem S1x2048x128 .f32) (q : Fin 16) (v : BitVec 32) (hw : k0_chk1 i v)
    (r : Prog (TpuEff nD τ sig (Elt F) Λ₀ .tc) α) (K : α → Prog (TpuEff nD τ sig (Elt F) Λ₀ .tc) β) :
    rowThen i arg5 arg6 arg7 arg8 q v hw r >>= K = rowThen i arg5 arg6 arg7 arg8 q v hw (r >>= K) := by
  unfold rowThen
  split
  · simp only [bind_assoc]
  · rfl

/-- A program bound after a word's read is bound after what follows the read. -/
theorem wordThen_bind {α β : Type} (i : grid0.Coords) (arg2 : Memref sig .tc .smem S16 .i32) (q : Fin 16)
    (k : (v : BitVec 32) → k0_chk1 i v → Prog (TpuEff nD τ sig (Elt F) Λ₀ .tc) α) (K : α → Prog (TpuEff nD τ sig (Elt F) Λ₀ .tc) β) :
    wordThen i arg2 q k >>= K = wordThen i arg2 q fun v hw => k v hw >>= K := by
  unfold wordThen
  simp only [bind_assoc]

/-- A program bound after the two copies is bound after what follows them. -/
theorem copyThen_bind {α β : Type} (arg3 arg4 arg7 arg8 : Memref sig .tc .vmem S1x2048x128 .f32)
    (r : Prog (TpuEff nD τ sig (Elt F) Λ₀ .tc) α) (K : α → Prog (TpuEff nD τ sig (Elt F) Λ₀ .tc) β) :
    copyThen arg3 arg4 arg7 arg8 r >>= K = copyThen arg3 arg4 arg7 arg8 (r >>= K) := by
  unfold copyThen
  simp only [bind_assoc]

/-! ## The printed body as those steps -/

section
variable (i : grid0.Coords) (arg2 : Memref sig .tc .smem S16 .i32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x2048x128 .f32) (harg7 : arg7.IsWhole) (arg8 : Memref sig .tc .vmem S1x2048x128 .f32) (harg8 : arg8.IsWhole)

/-- The first coordinate of the block's rows, as the kernel computes it. -/
def base : BitVec 32 := Scalar.muli (BitVec.ofNat 32 (i 1).val) 2048#32

/-- The first part of the body: the copies, two steps, and the third position's word. -/
theorem part1_eq : k0_part1 (F := F) i arg2 harg2 arg3 harg3 arg4 harg4 arg5 harg5 arg6 harg6 arg7 harg7 arg8 harg8
    = copyThen arg3 arg4 arg7 arg8 (
      step i arg2 arg5 arg6 arg7 arg8 0 <|
      step i arg2 arg5 arg6 arg7 arg8 1 <|
      wordThen i arg2 2 fun v h => pure ⟨base i, v, h, Scalar.subi v (base i),
        Scalar.extui (Scalar.andi (Scalar.cmpi .sge v (base i)) (Scalar.cmpi .slt v (Scalar.addi (base i) 2048#32)))⟩) := by
  rw [k0_part1_eq_skeleton]
  unfold k0_part1_skel copyThen step wordThen rowThen
  rfl

/-- The second part: the third position's row, four steps, and the eighth position's word. -/
theorem part2_eq (v0 v23 : BitVec 32) (h : k0_chk3 i v23) (v24 v29 : BitVec 32) :
    k0_part2 (F := F) i arg2 harg2 arg3 harg3 arg4 harg4 arg5 harg5 arg6 harg6 arg7 harg7 arg8 harg8 v0 v23 h v24 v29
    = (rowThen i arg5 arg6 arg7 arg8 2 v23 h <|
      step i arg2 arg5 arg6 arg7 arg8 3 <|
      step i arg2 arg5 arg6 arg7 arg8 4 <|
      step i arg2 arg5 arg6 arg7 arg8 5 <|
      step i arg2 arg5 arg6 arg7 arg8 6 <|
      wordThen i arg2 7 fun v h => pure ⟨v, h, Scalar.subi v v0, Scalar.cmpi .sge v v0⟩) := by
  rw [k0_part2_eq_skeleton]
  unfold k0_part2_skel step wordThen rowThen
  rfl

/-- The third part: the eighth position's row and four steps. -/
theorem part3_eq (v0 v63 : BitVec 32) (h : k0_chk8 i v63) (v64 : BitVec 32) (v65 : BitVec 1) :
    k0_part3 (F := F) i arg2 harg2 arg3 harg3 arg4 harg4 arg5 harg5 arg6 harg6 arg7 harg7 arg8 harg8 v0 v63 h v64 v65
    = (rowThen i arg5 arg6 arg7 arg8 7 v63 h <|
      step i arg2 arg5 arg6 arg7 arg8 8 <|
      step i arg2 arg5 arg6 arg7 arg8 9 <|
      step i arg2 arg5 arg6 arg7 arg8 10 <|
      step i arg2 arg5 arg6 arg7 arg8 11 <|
      pure ⟨⟩) := by
  rw [k0_part3_eq_skeleton]
  unfold k0_part3_skel step wordThen rowThen
  rfl

/-- The steps of the positions in the list `l`, in order; then `r`. -/
def steps {α : Type} (l : List (Fin 16)) (r : Prog (TpuEff nD τ sig (Elt F) Λ₀ .tc) α) : Prog (TpuEff nD τ sig (Elt F) Λ₀ .tc) α :=
  l.foldr (fun q r => step i arg2 arg5 arg6 arg7 arg8 q r) r

/-- The whole body: the copies, and the sixteen steps. -/
theorem body_eq : cc0__body (F := F) i arg2 harg2 arg3 harg3 arg4 harg4 arg5 harg5 arg6 harg6 arg7 harg7 arg8 harg8
    = copyThen arg3 arg4 arg7 arg8 (steps i arg2 arg5 arg6 arg7 arg8 (List.finRange 16) (pure ⟨⟩)) := by
  have tail : cc0__body (F := F) i arg2 harg2 arg3 harg3 arg4 harg4 arg5 harg5 arg6 harg6 arg7 harg7 arg8 harg8 =
      (k0_part1 (F := F) i arg2 harg2 arg3 harg3 arg4 harg4 arg5 harg5 arg6 harg6 arg7 harg7 arg8 harg8 >>= fun x => k0_part2 (F := F) i arg2 harg2 arg3 harg3 arg4 harg4 arg5 harg5 arg6 harg6 arg7 harg7 arg8 harg8 x.1 x.2.1 x.2.2.1 x.2.2.2.1 x.2.2.2.2 >>= fun y =>
        k0_part3 (F := F) i arg2 harg2 arg3 harg3 arg4 harg4 arg5 harg5 arg6 harg6 arg7 harg7 arg8 harg8 x.1 y.1 y.2.1 y.2.2.1 y.2.2.2 >>= fun _ =>
        steps i arg2 arg5 arg6 arg7 arg8 [12, 13, 14, 15] (pure ⟨⟩)) := by
    rw [cc0__body_eq_skeleton]
    unfold cc0__body_skel steps step wordThen rowThen
    rfl
  rw [tail]
  simp only [part1_eq, part2_eq, part3_eq, copyThen_bind, wordThen_bind, rowThen_bind, pure_bind, step]
  rfl

/-! ## The steps' triples -/

include harg3 harg4 harg7 harg8 in
/-- The copies' triple: the two result blocks end at the two cache blocks. -/
theorem wp_copyThen {α : Type} (c : Dev nD) (x3 x4 : Vec F S1x2048x128 .f32) (r : Prog (TpuEff nD τ sig (Elt F) Λ₀ .tc) α)
    (E : Set ℕ) (K : α → sProp 𝕄) :
    iprop(owns (c : Thread nD τ) arg3 fullShare x3 ∗ owns (c : Thread nD τ) arg4 fullShare x4
        ∗ (∃ d, owns (c : Thread nD τ) arg7 fullShare d) ∗ (∃ d, owns (c : Thread nD τ) arg8 fullShare d)
        ∗ (iprop(owns (c : Thread nD τ) arg3 fullShare x3 ∗ owns (c : Thread nD τ) arg4 fullShare x4
          ∗ owns (c : Thread nD τ) arg7 fullShare x3 ∗ owns (c : Thread nD τ) arg8 fullShare x4)
          -∗ wp frame (wpE (defs₀ (F := F)) Variants.none c none) E r K))
      ⊢ wp frame (wpE (defs₀ (F := F)) Variants.none c none) E (copyThen arg3 arg4 arg7 arg8 r) K := by
  unfold copyThen owns
  iintro ⟨⟨%f3, %hf3, H3⟩, ⟨%f4, %hf4, H4⟩, ⟨%d7, %f7, -, H7⟩, ⟨%d8, %f8, -, H8⟩, Hk⟩
  obtain rfl := harg3.eq_unread hf3; obtain rfl := harg4.eq_unread hf4
  sl_exec
  iapply Hk
  isplitl [H3]
  · iexists _; isplitr; · ipureintro; exact harg3.read_unread _
    iexact H3
  isplitl [H4]
  · iexists _; isplitr; · ipureintro; exact harg4.read_unread _
    iexact H4
  isplitl [H7]
  · iexists _; isplitr; swap; · iexact H7
    ipureintro
    rw [View.read_writes_full, k0_pay9, shapeCast_self, View.readAt_full, harg3.read_unread]
  iexists _; isplitr; swap; · iexact H8
  ipureintro
  rw [View.read_writes_full, k0_pay10, shapeCast_self, View.readAt_full, harg4.read_unread]

include harg5 harg6 harg7 harg8 in
/-- The guarded store's triple: the two result blocks end with the row set that the word names, if it names one. -/
theorem wp_rowThen {α : Type} (c : Dev nD) (q : Fin 16)
    (v : BitVec 32) (hw : k0_chk1 i v) (x5 x6 : Vec F S1x16x128 .f32) (X7 X8 : Vec F S1x2048x128 .f32)
    (r : Prog (TpuEff nD τ sig (Elt F) Λ₀ .tc) α) (E : Set ℕ) (K : α → sProp 𝕄) :
    iprop(owns (c : Thread nD τ) arg5 fullShare x5 ∗ owns (c : Thread nD τ) arg6 fullShare x6
        ∗ owns (c : Thread nD τ) arg7 fullShare X7 ∗ owns (c : Thread nD τ) arg8 fullShare X8
        ∗ (iprop(owns (c : Thread nD τ) arg5 fullShare x5 ∗ owns (c : Thread nD τ) arg6 fullShare x6
          ∗ owns (c : Thread nD τ) arg7 fullShare (setRow (2048 * (i 1).val) v q x5 X7)
          ∗ owns (c : Thread nD τ) arg8 fullShare (setRow (2048 * (i 1).val) v q x6 X8))
          -∗ wp frame (wpE (defs₀ (F := F)) Variants.none c none) E r K))
      ⊢ wp frame (wpE (defs₀ (F := F)) Variants.none c none) E (rowThen i arg5 arg6 arg7 arg8 q v hw r) K := by
  unfold rowThen owns
  iintro ⟨⟨%f5, %hf5, H5⟩, ⟨%f6, %hf6, H6⟩, ⟨%f7, %hf7, H7⟩, ⟨%f8, %hf8, H8⟩, Hk⟩
  obtain rfl := harg5.eq_unread hf5; obtain rfl := harg6.eq_unread hf6
  by_cases h : k0_cond1 i v = 1#1
  · sl_exec
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      rw [read_row i v h, hf7]
    iexists _; isplitr; swap; · iexact H8
    ipureintro
    rw [read_row i v h, hf8]
  · sl_exec
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      rw [hf7, setRow_of_not _ _ _ _ _ (mt (inRows_iff i v).mpr h)]
    iexists _; isplitr; swap; · iexact H8
    ipureintro
    rw [hf8, setRow_of_not _ _ _ _ _ (mt (inRows_iff i v).mpr h)]

include harg2 in
/-- The word's triple: what follows runs at the word of the list. -/
theorem wp_wordThen {α : Type} (c : Dev nD) (q : Fin 16)
    (x2 : Vec F S16 .i32)
    (k : (v : BitVec 32) → k0_chk1 i v → Prog (TpuEff nD τ sig (Elt F) Λ₀ .tc) α) (E : Set ℕ) (K : α → sProp 𝕄) :
    iprop(owns (c : Thread nD τ) arg2 fullShare x2
        ∗ (iprop(owns (c : Thread nD τ) arg2 fullShare x2)
          -∗ wp frame (wpE (defs₀ (F := F)) Variants.none c none) E (k (x2 (ix1 q)) (chk i _)) K))
      ⊢ wp frame (wpE (defs₀ (F := F)) Variants.none c none) E (wordThen i arg2 q k) K := by
  unfold wordThen owns
  iintro ⟨⟨%f2, %hf2, H2⟩, Hk⟩
  obtain rfl := harg2.eq_unread hf2
  have hchk := chk
  sl_exec
  have e : wp_wordThen.sl.r (F := F) arg2 harg2 c q x2 = x2 (ix1 q) := by
    unfold wp_wordThen.sl.r
    refine (harg2.readAt_unread x2 _ _).trans (congrArg x2 (funext fun a => Fin.ext ?_))
    fin_cases a
    show q.val + 1 * 0 = q.val
    omega
  rw [e]
  iapply Hk
  iexists _; isplitr; · ipureintro; exact harg2.read_unread _
  iexact H2

include harg2 harg5 harg6 harg7 harg8 in
/-- The triple of the steps of a list of positions: the result blocks end with those rows set, in the list's order. -/
theorem wp_steps {α : Type} (c : Dev nD) (l : List (Fin 16)) (x2 : Vec F S16 .i32) (x5 x6 : Vec F S1x16x128 .f32)
    (X7 X8 : Vec F S1x2048x128 .f32) (r : Prog (TpuEff nD τ sig (Elt F) Λ₀ .tc) α) (E : Set ℕ) (K : α → sProp 𝕄) :
    iprop(owns (c : Thread nD τ) arg2 fullShare x2
        ∗ owns (c : Thread nD τ) arg5 fullShare x5 ∗ owns (c : Thread nD τ) arg6 fullShare x6
        ∗ owns (c : Thread nD τ) arg7 fullShare X7 ∗ owns (c : Thread nD τ) arg8 fullShare X8
        ∗ (iprop(owns (c : Thread nD τ) arg2 fullShare x2
          ∗ owns (c : Thread nD τ) arg5 fullShare x5 ∗ owns (c : Thread nD τ) arg6 fullShare x6
          ∗ owns (c : Thread nD τ) arg7 fullShare (setRows (2048 * (i 1).val) x2 x5 l X7)
          ∗ owns (c : Thread nD τ) arg8 fullShare (setRows (2048 * (i 1).val) x2 x6 l X8))
          -∗ wp frame (wpE (defs₀ (F := F)) Variants.none c none) E r K))
      ⊢ wp frame (wpE (defs₀ (F := F)) Variants.none c none) E (steps i arg2 arg5 arg6 arg7 arg8 l r) K := by
  induction l generalizing X7 X8 with
  | nil =>
    iintro ⟨H2, H5, H6, H7, H8, Hk⟩
    iapply Hk
    isplitl [H2]; · iexact H2
    isplitl [H5]; · iexact H5
    isplitl [H6]; · iexact H6
    isplitl [H7]; · iexact H7
    iexact H8
  | cons q l ih =>
    rw [show steps (F := F) i arg2 arg5 arg6 arg7 arg8 (q :: l) r
      = wordThen i arg2 q fun v hw => rowThen i arg5 arg6 arg7 arg8 q v hw (steps i arg2 arg5 arg6 arg7 arg8 l r) from rfl]
    iintro ⟨H2, H5, H6, H7, H8, Hk⟩
    iapply (wp_wordThen i arg2 harg2 c q x2 _ E K)
    isplitl [H2]; · iexact H2
    iintro H2
    iapply (wp_rowThen i arg5 harg5 arg6 harg6 arg7 harg7 arg8 harg8 c q _ _ x5 x6 X7 X8 _ E K)
    isplitl [H5]; · iexact H5
    isplitl [H6]; · iexact H6
    isplitl [H7]; · iexact H7
    isplitl [H8]; · iexact H8
    iintro ⟨H5, H6, H7, H8⟩
    iapply (ih _ _)
    isplitl [H2]; · iexact H2
    isplitl [H5]; · iexact H5
    isplitl [H6]; · iexact H6
    isplitl [H7]; · iexact H7
    isplitl [H8]; · iexact H8
    iexact Hk

/-- The body's triple: on whole buffers holding the positions, the two cache blocks and the two blocks of new rows, the
    two result blocks end at the cache blocks with all sixteen rows set; the other buffers are as they were. -/
theorem wp_body (c : Dev nD) (x2 : Vec F S16 .i32) (x3 x4 : Vec F S1x2048x128 .f32) (x5 x6 : Vec F S1x16x128 .f32)
    (E : Set ℕ) (K : PUnit → sProp 𝕄) :
    iprop(owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg2 fullShare x2
          ∗ owns (c : Thread nD τ) arg3 fullShare x3 ∗ owns (c : Thread nD τ) arg4 fullShare x4
          ∗ owns (c : Thread nD τ) arg5 fullShare x5 ∗ owns (c : Thread nD τ) arg6 fullShare x6
          ∗ owns (c : Thread nD τ) arg7 fullShare (setRows (2048 * (i 1).val) x2 x5 (List.finRange 16) x3)
          ∗ owns (c : Thread nD τ) arg8 fullShare (setRows (2048 * (i 1).val) x2 x6 (List.finRange 16) x4)) -∗ K ⟨⟩))
      ⊢ wp frame (wpE (defs₀ (F := F)) Variants.none c none) E (cc0__body i arg2 harg2 arg3 harg3 arg4 harg4 arg5 harg5 arg6 harg6 arg7 harg7 arg8 harg8) K := by
  rw [body_eq]
  iintro ⟨H2, H3, H4, H5, H6, H7, H8, Hk⟩
  iapply (wp_copyThen arg3 harg3 arg4 harg4 arg7 harg7 arg8 harg8 c x3 x4 _ E K)
  isplitl [H3]; · iexact H3
  isplitl [H4]; · iexact H4
  isplitl [H7]; · iexact H7
  isplitl [H8]; · iexact H8
  iintro ⟨H3, H4, H7, H8⟩
  iapply (wp_steps i arg2 harg2 arg5 harg5 arg6 harg6 arg7 harg7 arg8 harg8 c _ x2 x5 x6 x3 x4 _ E K)
  isplitl [H2]; · iexact H2
  isplitl [H5]; · iexact H5
  isplitl [H6]; · iexact H6
  isplitl [H7]; · iexact H7
  isplitl [H8]; · iexact H8
  iintro ⟨H2, H5, H6, H7, H8⟩
  sl_step
  iapply Hk
  isplitl [H2]; · iexact H2
  isplitl [H3]; · iexact H3
  isplitl [H4]; · iexact H4
  isplitl [H5]; · iexact H5
  isplitl [H6]; · iexact H6
  isplitl [H7]; · iexact H7
  iexact H8

end

end Cert.KernelIdeal.Val
-- ==== Proof.RunIdeal.lean ====
/- The run of the whole program: the kernel's body at every point of its grid, and the reshapes around it. -/
module

public import proofs.«01_k».proof.Proof.BodyIdeal
public import Idealize.ShloMosaic.Lib.Claim
public import proofs.«01_k».proof.Proof.Gen.KernelIdeal.Points
public import proofs.«01_k».proof.Proof.Gen.KernelIdeal.Launch

@[expose] public section

set_option maxRecDepth 16384
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first cache row of the block at point `t`. -/
abbrev row0 (t : Fin cfg0.N) : ℕ := 2048 * ((grid0.coords t) 1).val

/-- What each window's buffer holds once the body is done with a point: an input its block, an output the block of the
    cache with the new rows set. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => setRows (row0 t) (iblk m c 0 t) (iblk m c 3 t) (List.finRange 16) (iblk m c 1 t)
    | ⟨6, _⟩ => setRows (row0 t) (iblk m c 0 t) (iblk m c 4 t) (List.finRange 16) (iblk m c 2 t)
  Φ _ := Pipeline.ΦA spec0 c
  q _ := fullShare
  owed _ := 0

/-- The windows' arrays are what the region finds. -/
theorem A_eq (c : Dev nD) (w : Fin cfg0.W) : (dats m 0 c).A w = V m c (Pipeline.arrRef spec0 w) := by dsimp only [dats]

/-- The body leaves every input's block in place. -/
theorem after_in (c : Dev nD) (t : Fin cfg0.N) :
    (dats m 0 c).after 0 t = iblk m c 0 t ∧ (dats m 0 c).after 1 t = iblk m c 1 t
      ∧ (dats m 0 c).after 2 t = iblk m c 2 t ∧ (dats m 0 c).after 3 t = iblk m c 3 t
      ∧ (dats m 0 c).after 4 t = iblk m c 4 t := by
  refine ⟨?_, ?_, ?_, ?_, ?_⟩ <;> dsimp only [dats]
/-- The first output's block after the body. -/
theorem after0_5 (c : Dev nD) (t : Fin cfg0.N) : (dats m 0 c).after 5 t
    = setRows (row0 t) (iblk m c 0 t) (iblk m c 3 t) (List.finRange 16) (iblk m c 1 t) := by dsimp only [dats]
/-- The second output's block after the body. -/
theorem after0_6 (c : Dev nD) (t : Fin cfg0.N) : (dats m 0 c).after 6 t
    = setRows (row0 t) (iblk m c 0 t) (iblk m c 4 t) (List.finRange 16) (iblk m c 2 t) := by dsimp only [dats]

/-- The body finds in every input's buffer that input's block, whether it was fetched at this point or before. -/
theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) :=
  ⟨before0_0_of m _ (A_eq m c 0) (fun t => (after_in m c t).1) t,
    before0_1_of m _ (A_eq m c 1) (fun t => (after_in m c t).2.1) t,
    before0_2_of m _ (A_eq m c 2) (fun t => (after_in m c t).2.2.1) t,
    before0_3_of m _ (A_eq m c 3) (fun t => (after_in m c t).2.2.2.1) t,
    before0_4_of m _ (A_eq m c 4) (fun t => (after_in m c t).2.2.2.2) t⟩

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at a point, window by window. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4⟩ := before_in m c t
  obtain ⟨a0, a1, a2, a3, a4⟩ := after_in m c t
  simp only [b0, b1, b2, b3, b4]
  rw [show (dats m 0 c).Φ t.succ = (dats m 0 c).Φ t.castSucc from rfl,
    show (dats m 0 c).owesAt () t.succ = (dats m 0 c).owesAt () t.castSucc from rfl,
    a0, a1, a2, a3, a4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (wp_body (grid0.coords t) _ _ _ _ _ _ _ _ _ _ _ _ _ _ c (iblk m c 0 t) (iblk m c 1 t) (iblk m c 2 t)
    (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The program's table of bodies gives this body at a point. -/
theorem defs₀_row (t : Fin cfg0.N) : defs₀ (F := F) .tc cfg0.body (cfg0.bodyArgs t (cfg0.slots t)) = bodyAt0 t := by
  unfold defs₀; rw [Defs.onTc_tc]

/-- The body does, at every point, what the pipeline asks of it. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run from any memory: the windows' arrays end with every block written back, every other buffer as the reshapes
    after the region leave it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The five arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Val
-- ==== Proof.ValueIdeal.lean ====
/- The values that the run leaves in the two results. -/
module

public import proofs.«01_k».proof.Proof.RunIdeal
public import Idealize.ShloMosaic.Lib.Pipeline.ValueKit

@[expose] public section

set_option maxRecDepth 16384
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen positions, as core `c` finds them. -/
abbrev pos (c : Dev nD) (q : Fin 16) : BitVec 32 := m ((c : Thread nD τ).loc main_arg4) (ix1 q)

/-- Where each window's block lies at each point of the grid. -/
theorem idx : ∀ t : Fin cfg0.N, win0_0.index t = ![0]
    ∧ win0_1.index t = ![((grid0.coords t) 0).val, ((grid0.coords t) 1).val, 0]
    ∧ win0_2.index t = ![((grid0.coords t) 0).val, ((grid0.coords t) 1).val, 0]
    ∧ win0_3.index t = ![((grid0.coords t) 0).val, 0, 0]
    ∧ win0_4.index t = ![((grid0.coords t) 0).val, 0, 0]
    ∧ win0_5.index t = ![((grid0.coords t) 0).val, ((grid0.coords t) 1).val, 0]
    ∧ win0_6.index t = ![((grid0.coords t) 0).val, ((grid0.coords t) 1).val, 0] :=
  (by decide +kernel : ∀ t : Fin grid0.N, _)

/-- The first result's flat array after the run. -/
theorem final5 (c : Dev nD) : (dats m 0 c).arrAt 5 cfg0.N = put3 (pos m c) (V m c main_v2) (V m c main_v0) := by
  refine (dats m 0 c).arrAt_eq_of_covers 5 _ (by decide +kernel) fun t hf y => ?_
  blk_simp
  rw [after0_5]
  refine (setRows_apply _ _ _ _ y).trans (pick_congr (fun q => ?_) ?_ (fun q => ?_) ?_)
  · refine Eq.trans ?_ (congrFun (V_main_arg4 m c) _)
    blk_ext [iblk, idx t]
  · blk_simp [idx t, row0]
    omega
  · blk_ext! [iblk, idx t]
  · blk_ext! [iblk, idx t]

/-- The second result's flat array after the run. -/
theorem final6 (c : Dev nD) : (dats m 0 c).arrAt 6 cfg0.N = put3 (pos m c) (V m c main_v3) (V m c main_v1) := by
  refine (dats m 0 c).arrAt_eq_of_covers 6 _ (by decide +kernel) fun t hf y => ?_
  blk_simp
  rw [after0_6]
  refine (setRows_apply _ _ _ _ y).trans (pick_congr (fun q => ?_) ?_ (fun q => ?_) ?_)
  · refine Eq.trans ?_ (congrFun (V_main_arg4 m c) _)
    blk_ext [iblk, idx t]
  · blk_simp [idx t, row0]
    omega
  · blk_ext! [iblk, idx t]
  · blk_ext! [iblk, idx t]

/-- A flat stack with new rows put in, seen as 8 by 8 caches, is the caches with their new rows put in. -/
theorem put3_shapeCast {α : Type} (w : Fin 16 → BitVec 32) (u : S8x8x16x128.Idx → α) (X : S8x8x4096x128.Idx → α)
    (hu : S8x8x16x128.ShapeCasts S64x16x128) (hX : S8x8x4096x128.ShapeCasts S64x4096x128)
    (h : S64x4096x128.ShapeCasts S8x8x4096x128) :
    shapeCast S8x8x4096x128 (put3 w (shapeCast S64x16x128 u hu) (shapeCast S64x4096x128 X hX)) h = put w u X := by
  funext j
  pointwise
  unfold put3 put
  refine pick_congr (fun _ => rfl) rfl (fun q => ?_) ?_
  · pointwise
  · pointwise

/-- What the reshapes after the region leave in the results, for any contents of the kernel's two output arrays. -/
theorem tail_results (V : Valuation τ sig (Elt F)) :
    StableHlo.after (List.flatten [hostOps1]) V (Proc.devRef .tc main_v5)
        = shapeCast S8x8x4096x128 (V (Proc.devRef .tc main_v4_0)) shapeCasts_S64x4096x128_S8x8x4096x128
      ∧ StableHlo.after (List.flatten [hostOps1]) V (Proc.devRef .tc main_v6)
        = shapeCast S8x8x4096x128 (V (Proc.devRef .tc main_v4_1)) shapeCasts_S64x4096x128_S8x8x4096x128 := by
  simp only [hostOps1, List.flatten_cons, List.flatten_nil, List.append_nil, List.cons_append, List.nil_append]
  constructor <;> after_results <;> rfl

/-- The region finds the caches and the new rows as the arguments hold them, reshaped to a flat stack of heads. -/
theorem entry (c : Dev nD) :
    V m c main_v0 = shapeCast S64x4096x128 (m ((c : Thread nD τ).loc main_arg0)) shapeCasts_S8x8x4096x128_S64x4096x128
    ∧ V m c main_v1 = shapeCast S64x4096x128 (m ((c : Thread nD τ).loc main_arg1)) shapeCasts_S8x8x4096x128_S64x4096x128
    ∧ V m c main_v2 = shapeCast S64x16x128 (m ((c : Thread nD τ).loc main_arg2)) shapeCasts_S8x8x16x128_S64x16x128
    ∧ V m c main_v3 = shapeCast S64x16x128 (m ((c : Thread nD τ).loc main_arg3)) shapeCasts_S8x8x16x128_S64x16x128 := by
  refine ⟨?_, ?_, ?_, ?_⟩ <;> entry_read <;> rfl

/-- The run leaves in each result its cache with the new rows put in. -/
theorem run_results : θ_run defs (onTc (τ := τ) (main (F := F))) ⟨m, fun _ => 0, ρ⟩ (fun r => ∀ c : Dev nD,
      r.2.mem ((c.tc : Thread nD τ).loc main_v5)
        = put (pos m c) (m ((c.tc : Thread nD τ).loc main_arg2)) (m ((c.tc : Thread nD τ).loc main_arg0))
      ∧ r.2.mem ((c.tc : Thread nD τ).loc main_v6)
        = put (pos m c) (m ((c.tc : Thread nD τ).loc main_arg3)) (m ((c.tc : Thread nD τ).loc main_arg1))) :=
  (θ_run defs _ _).mono (fun r h c => by
    obtain ⟨e0, e1, e2, e3⟩ := entry m c
    constructor
    · refine (h.1.rest_eq c main_v5 (Pipeline.mem_restRefs_of main_v5 (by decide) (by decide))).trans
        ((tail_results _).1.trans ?_)
      refine (congrArg (fun X => shapeCast S8x8x4096x128 X shapeCasts_S64x4096x128_S8x8x4096x128)
        ((Pipeline.withArrays_arr spec0 launch0.win.arr_inj c _ _ 5).trans (final5 m c))).trans ?_
      rw [e0, e2]
      exact put3_shapeCast _ _ _ _ _ _
    · refine (h.1.rest_eq c main_v6 (Pipeline.mem_restRefs_of main_v6 (by decide) (by decide))).trans
        ((tail_results _).2.trans ?_)
      refine (congrArg (fun X => shapeCast S8x8x4096x128 X shapeCasts_S64x4096x128_S8x8x4096x128)
        ((Pipeline.withArrays_arr spec0 launch0.win.arr_inj c _ _ 6).trans (final6 m c))).trans ?_
      rw [e1, e3]
      exact put3_shapeCast _ _ _ _ _ _) (run_main m ρ)

end Cert.KernelIdeal.Val
-- ==== Proof.Scatter.lean ====
/- The reference's scatter, read as the caches with their new rows put in. -/
module

public import proofs.«01_k».proof.Proof.Rows
public import Idealize.ShloMosaic.Lib.Routing.OpsPair
public import Idealize.ShloMosaic.Lib.Pointwise

@[expose] public section
noncomputable section

namespace Cert.Rows
open Idealize.ShloMosaic Idealize.ShloMosaic.Routing

/-- A fold that replaces its value at the members of a list that pass a test, the tested members being those of a second
    list in the same order. -/
theorem foldl_if_eq {α β γ : Type} (p : β → Prop) [DecidablePred p] (v : β → α) (p' : γ → Prop) [DecidablePred p'] (g : γ → β)
    (L : List β) (M : List γ) (h : L.filter (fun n => p n) = (M.filter (fun q => p' q)).map g) (a : α) :
    L.foldl (fun a n => if p n then v n else a) a = M.foldl (fun a q => if p' q then v (g q) else a) a := by
  have key : ∀ {δ : Type} (r : δ → Prop) [DecidablePred r] (f : δ → α) (l : List δ) (a : α),
      l.foldl (fun a n => if r n then f n else a) a = (l.filter (fun n => r n)).foldl (fun _ n => f n) a := by
    intro δ r _ f l
    induction l with
    | nil => intro a; rfl
    | cons n l ih =>
      intro a
      by_cases hn : r n
      · simp [hn, ih]
      · simp [hn, ih]
  rw [key p v L a, key p' (fun q => v (g q)) M a, h, List.foldl_map]

/-- Of all the places of a list in order, those that pass a test are the images, in order, of the places of a shorter
    list that pass another, where the images keep the order and are exactly the places that pass. -/
theorem filter_eq_map {N K : ℕ} (p : Fin N → Prop) [DecidablePred p] (p' : Fin K → Prop) [DecidablePred p'] (g : Fin K → Fin N)
    (hg : StrictMono g) (h : ∀ n, p n ↔ ∃ q, p' q ∧ g q = n) :
    (List.finRange N).filter (fun n => p n) = ((List.finRange K).filter (fun q => p' q)).map g := by
  refine List.Perm.eq_of_pairwise (le := (· < ·)) (fun a b _ _ hab hba => absurd (hab.trans hba) (lt_irrefl _)) ?_ ?_ ?_
  · exact (List.pairwise_lt_finRange N).filter _
  · exact (List.pairwise_map.mpr (((List.pairwise_lt_finRange K).filter _).imp fun hab => hg hab))
  · refine (List.perm_ext_iff_of_nodup ((List.nodup_finRange N).filter _)
      (((List.nodup_finRange K).filter _).map hg.injective)).mpr fun n => ?_
    simp [h]

section
variable (d : ScatterDims ⟨4, ![8, 8, 4096, 128]⟩ ⟨2, ![16, 1]⟩ ⟨4, ![8, 8, 16, 128]⟩)
  (hu : d.updateWindowDims = [0, 1, 3]) (hi : d.insertedWindowDims = [2]) (hs : d.scatterDimsToOperandDims = [2])
  (hv : d.indexVectorDim = 1)
include hu hi hs hv

/-- A new row's element lands at an element of the caches exactly when the two agree in head and lane and the row's
    word, signed, is the element's row. -/
theorem lands_iff (idx : IVec ⟨2, ![16, 1]⟩ 32) (k : (⟨4, ![8, 8, 16, 128]⟩ : Shape).Idx)
    (i : (⟨4, ![8, 8, 4096, 128]⟩ : Shape).Idx) :
    d.resultIdx? k idx = some i
      ↔ k 0 = i 0 ∧ k 1 = i 1 ∧ (idx (ix2 (k 2) 0)).toInt = ((i 2).val : ℤ) ∧ k 3 = i 3 := by
  rw [resultIdx?_eq_some]
  obtain ⟨_, _, _, _, wf⟩ := d
  dsimp only at hu hi hs hv
  subst hu hi hs hv
  have e0 : ∀ a, a ≠ 2 → ScatterDims.start ⟨[0, 1, 3], [2], [2], 1, wf⟩ k idx a = 0 := by
    intro a ha
    unfold ScatterDims.start
    rw [dif_neg (by simpa using ha)]
  have e2 : ScatterDims.start ⟨[0, 1, 3], [2], [2], 1, wf⟩ k idx 2 = (idx (ix2 (k 2) 0)).toInt := by
    unfold ScatterDims.start
    rw [dif_pos (by simp)]
    refine congrArg (fun x => (idx x).toInt) (funext fun b => ?_)
    fin_cases b <;> rfl
  have w0 : ScatterDims.window ⟨[0, 1, 3], [2], [2], 1, wf⟩ k 0 = (k 0).val := rfl
  have w1 : ScatterDims.window ⟨[0, 1, 3], [2], [2], 1, wf⟩ k 1 = (k 1).val := rfl
  have w2 : ScatterDims.window ⟨[0, 1, 3], [2], [2], 1, wf⟩ k 2 = 0 := rfl
  have w3 : ScatterDims.window ⟨[0, 1, 3], [2], [2], 1, wf⟩ k 3 = (k 3).val := rfl
  constructor
  · intro h
    have h0 := h 0; have h1 := h 1; have h2 := h 2; have h3 := h 3
    rw [e0 _ (by decide), w0] at h0
    rw [e0 _ (by decide), w1] at h1
    rw [e2, w2] at h2
    rw [e0 _ (by decide), w3] at h3
    exact ⟨Fin.ext (by omega), Fin.ext (by omega), by omega, Fin.ext (by omega)⟩
  · rintro ⟨h0, h1, h2, h3⟩ a
    have h0 := congrArg Fin.val h0; have h1 := congrArg Fin.val h1; have h3 := congrArg Fin.val h3
    fin_cases a
    · refine (congrArg₂ (fun x (y : ℕ) => x + (y : ℤ)) (e0 0 (by decide)) w0).trans ?_
      exact show (0 : ℤ) + ((k 0).val : ℤ) = ((i 0).val : ℤ) by omega
    · refine (congrArg₂ (fun x (y : ℕ) => x + (y : ℤ)) (e0 1 (by decide)) w1).trans ?_
      exact show (0 : ℤ) + ((k 1).val : ℤ) = ((i 1).val : ℤ) by omega
    · refine (congrArg₂ (fun x (y : ℕ) => x + (y : ℤ)) e2 w2).trans ?_
      exact show (idx (ix2 (k 2) 0)).toInt + ((0 : ℕ) : ℤ) = ((i 2).val : ℤ) by omega
    · refine (congrArg₂ (fun x (y : ℕ) => x + (y : ℤ)) (e0 3 (by decide)) w3).trans ?_
      exact show (0 : ℤ) + ((k 3).val : ℤ) = ((i 3).val : ℤ) by omega

/-- The scatter that sets, at the words in `idx`, is the caches with the new rows put in. -/
theorem scatter_eq_put {α : Type} (X : (⟨4, ![8, 8, 4096, 128]⟩ : Shape).Idx → α) (idx : IVec ⟨2, ![16, 1]⟩ 32)
    (u : (⟨4, ![8, 8, 16, 128]⟩ : Shape).Idx → α) :
    Host.scatter d (fun _ b => b) X idx u = put (fun q => idx (ix2 q 0)) u X := by
  funext i
  rw [scatter_at]
  unfold put pick
  let g : Fin 16 → Fin (Shape.numel ⟨4, ![8, 8, 16, 128]⟩) := fun q => Shape.rowMajor _ (ix4 (i 0) (i 1) q (i 3))
  have hg : StrictMono g := fun a b hab => by
    have hab : a.val < b.val := hab
    show (g a).val < (g b).val
    simp only [g, Shape.rowMajor_val_four]
    simp
    omega
  refine (foldl_if_eq (fun n => d.resultIdx? (Shape.rowMajor _ |>.symm n) idx = some i) (fun n => u (Shape.rowMajor _ |>.symm n))
    (fun q => (idx (ix2 q 0)).toInt = ((i 2).val : ℤ)) g _ _ (filter_eq_map _ _ g hg fun n => ?_) (X i)).trans ?_
  · rw [lands_iff d hu hi hs hv]
    constructor
    · rintro ⟨h0, h1, h2, h3⟩
      refine ⟨_, h2, ?_⟩
      rw [← Equiv.eq_symm_apply]
      funext a
      fin_cases a
      · exact h0.symm
      · exact h1.symm
      · rfl
      · exact h3.symm
    · rintro ⟨q, hq, rfl⟩
      rw [Equiv.symm_apply_apply]
      exact ⟨rfl, rfl, hq, rfl⟩
  · simp only [g, Equiv.symm_apply_apply]

end

end Cert.Rows
-- ==== Proof.Reference.lean ====
/- The reference's run: its two results are the caches with their new rows put in. -/
module

public import proofs.«01_k».proof.Proof.Scatter
public import proofs.«01_k».proof.Proof.Gen.ReferenceIdeal
public import proofs.«01_k».proof.Proof.Gen.Pre_positions
public import Idealize.ShloMosaic.Lib.StableHlo.RunHlo
public import Idealize.ShloMosaic.Lib.ReduceAll
public import Idealize.ShloMosaic.Lib.Claim
public import Idealize.ShloMosaic.Lib.Quiescent
public import Idealize.ShloMosaic.Lib.WordCmp
public import Idealize.ShloMosaic.Lib.Pointwise
public import Idealize.ShloMosaic.Adequacy
public import Idealize.ShloMosaic.Init

@[expose] public section
noncomputable section

namespace Cert.ReferenceIdeal.Val
open Idealize.ShloMosaic Idealize.ShloMosaic.TcCoe Idealize.SL.Sem Cert.ReferenceIdeal Cert.Rows

variable {F : FTy → Type} [FloatOps F]

/-- The precondition says that every position is at least zero. -/
theorem nonneg_of_pre (a0 a1 : FVec F S8x8x4096x128 .f32) (a2 a3 : FVec F S8x8x16x128 .f32) (w : IVec S16 32)
    (h : Cert.Pre_positions.fn (F := F) a0 a1 a2 a3 w = fun _ => 1#1) (q : Fin 16) : 0 ≤ (w (ix1 q)).toInt := by
  have e : BitVec.ofBool (decide ((0#32).toInt ≤ (w (ix1 q)).toInt)) = 1#1 :=
    Host.reduce_andi_eq_one _ _ _ _ ix0 (congrFun h ix0) (ix1 q) (funext fun a => a.elim0)
  simpa using (WordCmp.ofBool_decide_eq_one_iff _).mp e

/-- A position that is at least zero is not moved by the reference's wrap of the negative ones. -/
theorem word_eq (w : BitVec 32) (h : 0 ≤ w.toInt) : Scalar.select (IntOp.cmpi .slt w 0#32) (IntOp.addi w 4096#32) w = w := by
  have e : IntOp.cmpi .slt w 0#32 = 0#1 := by
    rw [WordCmp.cmpi_slt_eq, WordCmp.ofBool_decide_eq_zero_iff]
    simpa using h
  rw [e]
  rfl

/-- What the reference computes from a cache, its new rows and the positions: the cache with the new rows put in, where
    every position is at least zero. -/
theorem result_eq {α : Type} (X : S8x8x4096x128.Idx → α) (u : S8x8x16x128.Idx → α) (w : IVec S16 32)
    (hw : ∀ q, 0 ≤ (w (ix1 q)).toInt) :
    Host.scatter scatter_S8x8x4096x128_S16x1_S8x8x16x128_013_2_2_1 (fun _ b => b) X
        (broadcastInDim S16x1 ![0] Facts₀.bcast_S16_S16x1_0
          (select (cmpi .slt w (broadcastInDim S16 ![] Facts₀.bcast_S_S16 (constantI S_ 32 0#32)))
            (addi w (broadcastInDim S16 ![] Facts₀.bcast_S_S16 (constantI S_ 32 4096#32))) w)) u
      = put (fun q => w (ix1 q)) u X := by
  refine (scatter_eq_put _ rfl rfl rfl rfl X _ u).trans (congrArg (fun f => put f u X) (funext fun q => ?_))
  pointwise
  exact word_eq _ (hw q)

variable (m : (ℓ : Loc nD τ sig) → Buf (Elt F) ℓ) (ρ : Dev nD → PrngReg)

/-- From positions that are at least zero, the reference leaves in each result its cache with the new rows put in. -/
theorem run (hw : ∀ (c : Dev nD) q, 0 ≤ (m ((c.tc : Thread nD τ).loc main_arg4) (ix1 q)).toInt) :
    θ_run defs (onTc (τ := τ) (main (F := F))) ⟨m, fun _ => 0, ρ⟩ (fun r => ∀ c : Dev nD,
      r.2.mem ((c.tc : Thread nD τ).loc main_v6)
        = put (fun q => m ((c.tc : Thread nD τ).loc main_arg4) (ix1 q)) (m ((c.tc : Thread nD τ).loc main_arg2)) (m ((c.tc : Thread nD τ).loc main_arg0))
      ∧ r.2.mem ((c.tc : Thread nD τ).loc main_v13)
        = put (fun q => m ((c.tc : Thread nD τ).loc main_arg4) (ix1 q)) (m ((c.tc : Thread nD τ).loc main_arg3)) (m ((c.tc : Thread nD τ).loc main_arg1))) := by
  hlo_run
  · exact result_eq _ _ _ (hw c)
  · exact result_eq _ _ _ (hw c)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  exact θ_run_mono (unchanged m ρ) fun r h => ⟨h, sem_eq_zero_of_no_sems (by decide) r.2⟩

end Cert.ReferenceIdeal.Val
-- ==== Proof.lean ====
/- The claims about the KV-cache update: the kernel, its reading over the extended reals and the reference run without
   fault and leave their arguments alone, and the kernel's two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_positions
public import proofs.«01_k».proof.Proof.Run
public import proofs.«01_k».proof.Proof.ValueIdeal
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel and the reference, read over the extended reals, leave equal results where no position is negative: both
    are the caches with the new rows put in. -/
theorem algebraic : Cert.algebraic_KernelIdeal_ReferenceIdeal_pre_positions := by
  intro m g m' g' hpre hagree
  refine ⟨_, _, θ_run_mono (θ_run_and (Cert.KernelIdeal.Val.run_results m g) (Cert.KernelIdeal.Val.frame m g))
      fun r h c => ⟨(h.1 c).1, (h.1 c).2, h.2.1 c⟩,
    θ_run_mono (θ_run_and (Cert.ReferenceIdeal.Val.run m' g' fun c q => ?_) (Cert.ReferenceIdeal.Val.frame m' g'))
      fun r h c => ⟨(h.1 c).1.trans ?_, (h.1 c).2.trans ?_, h.2.1 c⟩⟩
  · rw [(hagree c).2.2.2.2]
    exact Cert.ReferenceIdeal.Val.nonneg_of_pre _ _ _ _ _ (hpre c) q
  · rw [(hagree c).1, (hagree c).2.2.1, (hagree c).2.2.2.2]
  · rw [(hagree c).2.1, (hagree c).2.2.2.1, (hagree c).2.2.2.2]

/-- All the claims. -/
theorem claim : Cert.Claim :=
  ⟨Cert.Kernel.Gen.facts, Cert.KernelIdeal.Gen.facts, Cert.ReferenceIdeal.Gen.facts, Cert.Pre_positions.Gen.facts,
    fun m g _ => Cert.Kernel.Val.frame m g, fun m g _ => Cert.KernelIdeal.Val.frame m g,
    fun m g _ => Cert.KernelIdeal.Val.frame m g, fun m g _ => Cert.ReferenceIdeal.Val.frame m g,
    fun m g _ => Cert.ReferenceIdeal.Val.frame m g, trivial, algebraic⟩

end Cert.Proof

end
